-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
-- ==== Pre_scores_in_range.lean ====
abbrev S2x16x2048x64 : Shape := ⟨4, ![2, 16, 2048, 64]⟩
abbrev S4x16x4096x64 : Shape := ⟨4, ![4, 16, 4096, 64]⟩
abbrev S1x16x4096x64 : Shape := ⟨4, ![1, 16, 4096, 64]⟩
abbrev S16x4096x64 : Shape := ⟨3, ![16, 4096, 64]⟩
abbrev S16x4096x2x2048 : Shape := ⟨4, ![16, 4096, 2, 2048]⟩
abbrev S2x16x2048x4096 : Shape := ⟨4, ![2, 16, 2048, 4096]⟩
abbrev S_ : Shape := ⟨0, ![]⟩

class Facts : Prop where
  slices_S4x16x4096x64_S1x16x4096x64_0_0_0_0 : S4x16x4096x64.Slices ![0, 0, 0, 0] S1x16x4096x64
  shapeCasts_S1x16x4096x64_S16x4096x64 : S1x16x4096x64.ShapeCasts S16x4096x64
  transposes_S16x4096x2x2048_S2x16x2048x4096_2_0_3_1 : S16x4096x2x2048.Transposes [2, 0, 3, 1] S2x16x2048x4096
  slices_S4x16x4096x64_S1x16x4096x64_1_0_0_0 : S4x16x4096x64.Slices ![1, 0, 0, 0] S1x16x4096x64
  slices_S4x16x4096x64_S1x16x4096x64_2_0_0_0 : S4x16x4096x64.Slices ![2, 0, 0, 0] S1x16x4096x64
  slices_S4x16x4096x64_S1x16x4096x64_3_0_0_0 : S4x16x4096x64.Slices ![3, 0, 0, 0] S1x16x4096x64
  bcast_S_S2x16x2048x4096 : S_.BroadcastsInDim S2x16x2048x4096 (![] : Fin 0 → Fin S2x16x2048x4096.rank)
  dot_S16x4096x64_S2x16x2048x64_S16x4096x2x2048_2_3_1_02_0_1_wf : DotDims.WF S16x4096x64 S2x16x2048x64 S16x4096x2x2048 [2] [3] [1] [0, 2] [0] [1]

variable [Facts]

def dot_S16x4096x64_S2x16x2048x64_S16x4096x2x2048_2_3_1_02_0_1 : DotDims S16x4096x64 S2x16x2048x64 S16x4096x2x2048 where
  lhsContracting := [2]
  rhsContracting := [3]
  lhsNonContracting := [1]
  rhsNonContracting := [0, 2]
  lhsBatch := [0]
  rhsBatch := [1]
  wf := dot_S16x4096x64_S2x16x2048x64_S16x4096x2x2048_2_3_1_02_0_1_wf
def fn_part1 {F : FTy → Type} [FloatOps F] (main_v11 : FVec F S2x16x2048x4096 .f32) (main_v15 : FVec F S2x16x2048x4096 .f32) (main_v18 : IVec S2x16x2048x4096 1) (main_v21 : IVec S2x16x2048x4096 1) : IVec S2x16x2048x4096 1 × IVec S2x16x2048x4096 1 × IVec S2x16x2048x4096 1 × IVec S2x16x2048x4096 1 :=
  let main_v22 : FVec F S2x16x2048x4096 .f32 := Host.absf main_v11
  let main_cst_1 : FVec F S_ .f32 := constant S_ .f32 0x425DCCCD#32
  let main_v23 : FVec F S2x16x2048x4096 .f32 := broadcastInDim S2x16x2048x4096 ![] bcast_S_S2x16x2048x4096 main_cst_1
  let main_v24 : IVec S2x16x2048x4096 1 := cmpf .ole main_v22 main_v23
  let main_v25 : FVec F S2x16x2048x4096 .f32 := Host.absf main_v15
  let main_cst_2 : FVec F S_ .f32 := constant S_ .f32 0x425DCCCD#32
  let main_v26 : FVec F S2x16x2048x4096 .f32 := broadcastInDim S2x16x2048x4096 ![] bcast_S_S2x16x2048x4096 main_cst_2
  let main_v27 : IVec S2x16x2048x4096 1 := cmpf .ole main_v25 main_v26
  (main_v18, main_v21, main_v24, main_v27)

def fn {F : FTy → Type} [FloatOps F] (main_arg0 : FVec F S2x16x2048x64 .f32) (main_arg1 : FVec F S4x16x4096x64 .f32) (main_arg2 : FVec F S4x16x4096x64 .f32) : IVec S2x16x2048x4096 1 × IVec S2x16x2048x4096 1 × IVec S2x16x2048x4096 1 × IVec S2x16x2048x4096 1 :=
  let main_v0 : FVec F S1x16x4096x64 .f32 := (extractStridedSlice S1x16x4096x64 ![0, 0, 0, 0] · slices_S4x16x4096x64_S1x16x4096x64_0_0_0_0) main_arg1
  let main_v1 : FVec F S16x4096x64 .f32 := shapeCast S16x4096x64 main_v0 shapeCasts_S1x16x4096x64_S16x4096x64
  let main_v2 : FVec F S16x4096x2x2048 .f32 := (fun l r => Host.dotGeneral dot_S16x4096x64_S2x16x2048x64_S16x4096x2x2048_2_3_1_02_0_1 none l r) main_v1 main_arg0
  let main_v3 : FVec F S2x16x2048x4096 .f32 := (transpose S2x16x2048x4096 [2, 0, 3, 1] · transposes_S16x4096x2x2048_S2x16x2048x4096_2_0_3_1) main_v2
  let main_v4 : FVec F S1x16x4096x64 .f32 := (extractStridedSlice S1x16x4096x64 ![1, 0, 0, 0] · slices_S4x16x4096x64_S1x16x4096x64_1_0_0_0) main_arg1
  let main_v5 : FVec F S16x4096x64 .f32 := shapeCast S16x4096x64 main_v4 shapeCasts_S1x16x4096x64_S16x4096x64
  let main_v6 : FVec F S16x4096x2x2048 .f32 := (fun l r => Host.dotGeneral dot_S16x4096x64_S2x16x2048x64_S16x4096x2x2048_2_3_1_02_0_1 none l r) main_v5 main_arg0
  let main_v7 : FVec F S2x16x2048x4096 .f32 := (transpose S2x16x2048x4096 [2, 0, 3, 1] · transposes_S16x4096x2x2048_S2x16x2048x4096_2_0_3_1) main_v6
  let main_v8 : FVec F S1x16x4096x64 .f32 := (extractStridedSlice S1x16x4096x64 ![2, 0, 0, 0] · slices_S4x16x4096x64_S1x16x4096x64_2_0_0_0) main_arg1
  let main_v9 : FVec F S16x4096x64 .f32 := shapeCast S16x4096x64 main_v8 shapeCasts_S1x16x4096x64_S16x4096x64
  let main_v10 : FVec F S16x4096x2x2048 .f32 := (fun l r => Host.dotGeneral dot_S16x4096x64_S2x16x2048x64_S16x4096x2x2048_2_3_1_02_0_1 none l r) main_v9 main_arg0
  let main_v11 : FVec F S2x16x2048x4096 .f32 := (transpose S2x16x2048x4096 [2, 0, 3, 1] · transposes_S16x4096x2x2048_S2x16x2048x4096_2_0_3_1) main_v10
  let main_v12 : FVec F S1x16x4096x64 .f32 := (extractStridedSlice S1x16x4096x64 ![3, 0, 0, 0] · slices_S4x16x4096x64_S1x16x4096x64_3_0_0_0) main_arg1
  let main_v13 : FVec F S16x4096x64 .f32 := shapeCast S16x4096x64 main_v12 shapeCasts_S1x16x4096x64_S16x4096x64
  let main_v14 : FVec F S16x4096x2x2048 .f32 := (fun l r => Host.dotGeneral dot_S16x4096x64_S2x16x2048x64_S16x4096x2x2048_2_3_1_02_0_1 none l r) main_v13 main_arg0
  let main_v15 : FVec F S2x16x2048x4096 .f32 := (transpose S2x16x2048x4096 [2, 0, 3, 1] · transposes_S16x4096x2x2048_S2x16x2048x4096_2_0_3_1) main_v14
  let main_v16 : FVec F S2x16x2048x4096 .f32 := Host.absf main_v3
  let main_cst : FVec F S_ .f32 := constant S_ .f32 0x425DCCCD#32
  let main_v17 : FVec F S2x16x2048x4096 .f32 := broadcastInDim S2x16x2048x4096 ![] bcast_S_S2x16x2048x4096 main_cst
  let main_v18 : IVec S2x16x2048x4096 1 := cmpf .ole main_v16 main_v17
  let main_v19 : FVec F S2x16x2048x4096 .f32 := Host.absf main_v7
  let main_cst_0 : FVec F S_ .f32 := constant S_ .f32 0x425DCCCD#32
  let main_v20 : FVec F S2x16x2048x4096 .f32 := broadcastInDim S2x16x2048x4096 ![] bcast_S_S2x16x2048x4096 main_cst_0
  let main_v21 : IVec S2x16x2048x4096 1 := cmpf .ole main_v19 main_v20
  fn_part1 (F := F) main_v11 main_v15 main_v18 main_v21
-- ==== Kernel.lean ====
abbrev S2x16x2048x64 : Shape := ⟨4, ![2, 16, 2048, 64]⟩
abbrev S4x16x4096x64 : Shape := ⟨4, ![4, 16, 4096, 64]⟩
abbrev S2x16x64x2048 : Shape := ⟨4, ![2, 16, 64, 2048]⟩
abbrev S4x16x64x4096 : Shape := ⟨4, ![4, 16, 64, 4096]⟩
abbrev S_ : Shape := ⟨0, ![]⟩
abbrev S4x16x1x4096 : Shape := ⟨4, ![4, 16, 1, 4096]⟩
abbrev S4x16x7x4096 : Shape := ⟨4, ![4, 16, 7, 4096]⟩
abbrev S4x16x8x4096 : Shape := ⟨4, ![4, 16, 8, 4096]⟩
abbrev S4x16x72x4096 : Shape := ⟨4, ![4, 16, 72, 4096]⟩
abbrev S1x1x64x2048 : Shape := ⟨4, ![1, 1, 64, 2048]⟩
abbrev S4x1x4096x64 : Shape := ⟨4, ![4, 1, 4096, 64]⟩
abbrev S4x1x72x4096 : Shape := ⟨4, ![4, 1, 72, 4096]⟩
abbrev S64x2048 : Shape := ⟨2, ![64, 2048]⟩
abbrev S1x1x4096x64 : Shape := ⟨4, ![1, 1, 4096, 64]⟩
abbrev S4096x64 : Shape := ⟨2, ![4096, 64]⟩
abbrev S4096x2048 : Shape := ⟨2, ![4096, 2048]⟩
abbrev S1x1x72x4096 : Shape := ⟨4, ![1, 1, 72, 4096]⟩
abbrev S72x4096 : Shape := ⟨2, ![72, 4096]⟩
abbrev S72x2048 : Shape := ⟨2, ![72, 2048]⟩
abbrev S1x2048 : Shape := ⟨2, ![1, 2048]⟩

abbrev nBuf : Space → Nat
  | .hbm => 15
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S4x16x4096x64, .f32⟩
  | .hbm, ⟨2, _⟩ => ⟨S4x16x4096x64, .f32⟩
  | .hbm, ⟨3, _⟩ => ⟨S2x16x64x2048, .f32⟩
  | .hbm, ⟨4, _⟩ => ⟨S2x16x64x2048, .bf16⟩
  | .hbm, ⟨5, _⟩ => ⟨S4x16x64x4096, .f32⟩
  | .hbm, ⟨6, _⟩ => ⟨S4x16x64x4096, .bf16⟩
  | .hbm, ⟨7, _⟩ => ⟨S_, .bf16⟩
  | .hbm, ⟨8, _⟩ => ⟨S4x16x1x4096, .bf16⟩
  | .hbm, ⟨9, _⟩ => ⟨S_, .bf16⟩
  | .hbm, ⟨10, _⟩ => ⟨S4x16x7x4096, .bf16⟩
  | .hbm, ⟨11, _⟩ => ⟨S4x16x8x4096, .bf16⟩
  | .hbm, ⟨12, _⟩ => ⟨S4x16x72x4096, .bf16⟩
  | .hbm, ⟨13, _⟩ => ⟨S2x16x64x2048, .f32⟩
  | .hbm, ⟨14, _⟩ => ⟨S2x16x2048x64, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S4x1x4096x64, .f32⟩
  | .local _ .vmem, ⟨3, _⟩ => ⟨S4x1x4096x64, .f32⟩
  | .local _ .vmem, ⟨4, _⟩ => ⟨S4x1x72x4096, .bf16⟩
  | .local _ .vmem, ⟨5, _⟩ => ⟨S4x1x72x4096, .bf16⟩
  | .local _ .vmem, ⟨6, _⟩ => ⟨S1x1x64x2048, .f32⟩
  | .local _ .vmem, ⟨7, _⟩ => ⟨S1x1x64x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, c0_i32_11.toNat, v26.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg0.toNat, c0_i32_11.toNat, v26.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1x72x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16x2048x64 : Shape := ⟨4, ![2, 16, 2048, 64]⟩
abbrev S4x16x4096x64 : Shape := ⟨4, ![4, 16, 4096, 64]⟩
abbrev S_ : Shape := ⟨0, ![]⟩
abbrev S1x16x4096x64 : Shape := ⟨4, ![1, 16, 4096, 64]⟩
abbrev S16x4096x64 : Shape := ⟨3, ![16, 4096, 64]⟩
abbrev S16x4096x2x2048 : Shape := ⟨4, ![16, 4096, 2, 2048]⟩
abbrev S2x16x2048x4096 : Shape := ⟨4, ![2, 16, 2048, 4096]⟩
abbrev S2x16x2048 : Shape := ⟨3, ![2, 16, 2048]⟩
abbrev S2x16x2048x1 : Shape := ⟨4, ![2, 16, 2048, 1]⟩
abbrev S16x64x2x2048 : Shape := ⟨4, ![16, 64, 2, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S4x16x4096x64, .f32⟩
  | .hbm, ⟨2, _⟩ => ⟨S4x16x4096x64, .f32⟩
  | .hbm, ⟨3, _⟩ => ⟨S_, .f32⟩
  | .hbm, ⟨4, _⟩ => ⟨S2x16x2048x64, .f32⟩
  | .hbm, ⟨5, _⟩ => ⟨S1x16x4096x64, .f32⟩
  | .hbm, ⟨6, _⟩ => ⟨S16x4096x64, .f32⟩
  | .hbm, ⟨7, _⟩ => ⟨S16x4096x2x2048, .f32⟩
  | .hbm, ⟨8, _⟩ => ⟨S2x16x2048x4096, .f32⟩
  | .hbm, ⟨9, _⟩ => ⟨S_, .f32⟩
  | .hbm, ⟨10, _⟩ => ⟨S2x16x2048, .f32⟩
  | .hbm, ⟨11, _⟩ => ⟨S_, .f32⟩
  | .hbm, ⟨12, _⟩ => ⟨S2x16x2048, .f32⟩
  | .hbm, ⟨13, _⟩ => ⟨S2x16x2048, .f32⟩
  | .hbm, ⟨14, _⟩ => ⟨S2x16x2048x1, .f32⟩
  | .hbm, ⟨15, _⟩ => ⟨S2x16x2048x4096, .f32⟩
  | .hbm, ⟨16, _⟩ => ⟨S2x16x2048x4096, .f32⟩
  | .hbm, ⟨17, _⟩ => ⟨S2x16x2048x4096, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S2x16x2048x4096, .f32⟩
  | .hbm, ⟨22, _⟩ => ⟨S2x16x2048x4096, .f32⟩
  | .hbm, ⟨23, _⟩ => ⟨S1x16x4096x64, .f32⟩
  | .hbm, ⟨24, _⟩ => ⟨S16x4096x64, .f32⟩
  | .hbm, ⟨25, _⟩ => ⟨S16x64x2x2048, .f32⟩
  | .hbm, ⟨26, _⟩ => ⟨S2x16x2048x64, .f32⟩
  | .hbm, ⟨27, _⟩ => ⟨S2x16x2048x64, .f32⟩
  | .hbm, ⟨28, _⟩ => ⟨S1x16x4096x64, .f32⟩
  | .hbm, ⟨29, _⟩ => ⟨S16x4096x64, .f32⟩
  | .hbm, ⟨30, _⟩ => ⟨S16x4096x2x2048, .f32⟩
  | .hbm, ⟨31, _⟩ => ⟨S2x16x2048x4096, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x4096, .f32⟩
  | .hbm, ⟨39, _⟩ => ⟨S2x16x2048x4096, .f32⟩
  | .hbm, ⟨40, _⟩ => ⟨S2x16x2048x4096, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x4096, .f32⟩
  | .hbm, ⟨45, _⟩ => ⟨S2x16x2048x4096, .f32⟩
  | .hbm, ⟨46, _⟩ => ⟨S1x16x4096x64, .f32⟩
  | .hbm, ⟨47, _⟩ => ⟨S16x4096x64, .f32⟩
  | .hbm, ⟨48, _⟩ => ⟨S16x64x2x2048, .f32⟩
  | .hbm, ⟨49, _⟩ => ⟨S2x16x2048x64, .f32⟩
  | .hbm, ⟨50, _⟩ => ⟨S2x16x2048x64, .f32⟩
  | .hbm, ⟨51, _⟩ => ⟨S1x16x4096x64, .f32⟩
  | .hbm, ⟨52, _⟩ => ⟨S16x4096x64, .f32⟩
  | .hbm, ⟨53, _⟩ => ⟨S16x4096x2x2048, .f32⟩
  | .hbm, ⟨54, _⟩ => ⟨S2x16x2048x4096, .f32⟩
  | .hbm, ⟨55, _⟩ => ⟨S_, .f32⟩
  | .hbm, ⟨56, _⟩ => ⟨S2x16x2048, .f32⟩
  | .hbm, ⟨57, _⟩ => ⟨S_, .f32⟩
  | .hbm, ⟨58, _⟩ => ⟨S2x16x2048, .f32⟩
  | .hbm, ⟨59, _⟩ => ⟨S2x16x2048, .f32⟩
  | .hbm, ⟨60, _⟩ => ⟨S2x16x2048x1, .f32⟩
  | .hbm, ⟨61, _⟩ => ⟨S2x16x2048x4096, .f32⟩
  | .hbm, ⟨62, _⟩ => ⟨S2x16x2048x4096, .f32⟩
  | .hbm, ⟨63, _⟩ => ⟨S2x16x2048x4096, .f32⟩
  | .hbm, ⟨64, _⟩ => ⟨S_, .f32⟩
  | .hbm, ⟨65, _⟩ => ⟨S2x16x2048, .f32⟩
  | .hbm, ⟨66, _⟩ => ⟨S2x16x2048x1, .f32⟩
  | .hbm, ⟨67, _⟩ => ⟨S2x16x2048x4096, .f32⟩
  | .hbm, ⟨68, _⟩ => ⟨S2x16x2048x4096, .f32⟩
  | .hbm, ⟨69, _⟩ => ⟨S1x16x4096x64, .f32⟩
  | .hbm, ⟨70, _⟩ => ⟨S16x4096x64, .f32⟩
  | .hbm, ⟨71, _⟩ => ⟨S16x64x2x2048, .f32⟩
  | .hbm, ⟨72, _⟩ => ⟨S2x16x2048x64, .f32⟩
  | .hbm, ⟨73, _⟩ => ⟨S2x16x2048x64, .f32⟩
  | .hbm, ⟨74, _⟩ => ⟨S1x16x4096x64, .f32⟩
  | .hbm, ⟨75, _⟩ => ⟨S16x4096x64, .f32⟩
  | .hbm, ⟨76, _⟩ => ⟨S16x4096x2x2048, .f32⟩
  | .hbm, ⟨77, _⟩ => ⟨S2x16x2048x4096, .f32⟩
  | .hbm, ⟨78, _⟩ => ⟨S_, .f32⟩
  | .hbm, ⟨79, _⟩ => ⟨S2x16x2048, .f32⟩
  | .hbm, ⟨80, _⟩ => ⟨S_, .f32⟩
  | .hbm, ⟨81, _⟩ => ⟨S2x16x2048, .f32⟩
  | .hbm, ⟨82, _⟩ => ⟨S2x16x2048, .f32⟩
  | .hbm, ⟨83, _⟩ => ⟨S2x16x2048x1, .f32⟩
  | .hbm, ⟨84, _⟩ => ⟨S2x16x2048x4096, .f32⟩
  | .hbm, ⟨85, _⟩ => ⟨S2x16x2048x4096, .f32⟩
  | .hbm, ⟨86, _⟩ => ⟨S2x16x2048x4096, .f32⟩
  | .hbm, ⟨87, _⟩ => ⟨S_, .f32⟩
  | .hbm, ⟨88, _⟩ => ⟨S2x16x2048, .f32⟩
  | .hbm, ⟨89, _⟩ => ⟨S2x16x2048x1, .f32⟩
  | .hbm, ⟨90, _⟩ => ⟨S2x16x2048x4096, .f32⟩
  | .hbm, ⟨91, _⟩ => ⟨S2x16x2048x4096, .f32⟩
  | .hbm, ⟨92, _⟩ => ⟨S1x16x4096x64, .f32⟩
  | .hbm, ⟨93, _⟩ => ⟨S16x4096x64, .f32⟩
  | .hbm, ⟨94, _⟩ => ⟨S16x64x2x2048, .f32⟩
  | .hbm, ⟨95, _⟩ => ⟨S2x16x2048x64, .f32⟩
  | .hbm, ⟨96, _⟩ => ⟨S2x16x2048x64, .f32⟩
  | .hbm, ⟨97, _⟩ => ⟨S_, .f32⟩
  | .hbm, ⟨98, _⟩ => ⟨S2x16x2048x64, .f32⟩
  | .hbm, ⟨99, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_11 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_12 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Proof.KernelBlock.lean ====
/- Hand-written, untrusted: what the kernel's body leaves in its output block, read at an index (`out_apply`). The body
   repeats one computation for each of the four banks, on that bank's slices of its blocks: it is named once (`term`) and
   read once (`prod_apply`, `term_apply`), the stored payload being the sum of the four terms times a constant (`pay_eq`). -/
module

public import proofs.«01_k».proof.Proof.Gen.KernelIdeal.Frame
public import Idealize.ShloMosaic.Lib.Pipeline.Value
public import Idealize.ShloMosaic.Lib.Pointwise
public import Idealize.ShloMosaic.PureOps.Ideal.Laws

@[expose] public section

noncomputable section

namespace Cert.Proof.KernelBlock

open Cert.KernelIdeal Cert.KernelIdeal.Gen Idealize.ShloMosaic

/-- The kernel's unnormalized weight: two to the power of the score clipped between the body's two constants. -/
def clip2 (s : EReal) : EReal :=
  Ideal.exp2 (min (Ideal.ofBits .f32 0x42A00000#32) (max (Ideal.ofBits .f32 0xC2A00000#32) s))

/-- The factor the kernel puts into its scores: the named constant of the body. -/
def logTwoE : EReal := Named.named (F := Ideal) (φ := .f32) κ "log2e" 0x3FB8AA3B#32

/-- One bank's product of the body: the value rows against the clipped exponentials of the bank's scaled scores. -/
def prod (q : Vec Ideal S1x1x64x2048 .bf16) (k : Vec Ideal S1x1x4096x64 .f32) (v : Vec Ideal S1x1x72x4096 .bf16) :
    FVec Ideal S72x2048 .f32 :=
  matmul dot_S72x4096_S4096x2048_S72x2048_1_0_0_1_n_n none
    (shapeCast (α := Ideal .bf16) S72x4096 v shapeCasts_S1x1x72x4096_S72x4096)
    (k0_pay4 q k : FVec Ideal S4096x2048 .bf16) (constant S72x2048 .f32 0x00000000#32)

/-- One bank's term of the body: rows `0 … 63` of the bank's product divided by its row `64`. -/
def term (q : Vec Ideal S1x1x64x2048 .bf16) (k : Vec Ideal S1x1x4096x64 .f32) (v : Vec Ideal S1x1x72x4096 .bf16) :
    FVec Ideal S64x2048 .f32 :=
  divf (extractStridedSlice S64x2048 ![0, 0] (prod q k v) slices_S72x2048_o0_0_S64x2048)
    (broadcastTo S64x2048 (extractStridedSlice S1x2048 ![64, 0] (prod q k v) slices_S72x2048_o64_0_S1x2048)
      broadcasts_S1x2048_S64x2048)

/-- The payload the body stores: the sum of the four banks' terms times the constant, as a block. -/
theorem pay_eq (q : Vec Ideal S1x1x64x2048 .bf16) (k0 k1 k2 k3 : Vec Ideal S1x1x4096x64 .f32)
    (v0 v1 v2 v3 : Vec Ideal S1x1x72x4096 .bf16) :
    k0_pay1 (k0_pay5 (k0_pay2 q) (k0_pay3 q k0 v0) (k0_pay4 q k1) v1 k2 v2) (k0_pay6 (k0_pay2 q) k3)
        (Scalar.ofBits .f32 0xC2A00000#32) (Scalar.ofBits .f32 0x42A00000#32) v3
      = shapeCast S1x1x64x2048
          (mulf (addf (addf (addf (term q k0 v0) (term q k1 v1)) (term q k2 v2)) (term q k3 v3))
            (broadcast S64x2048 (Scalar.ofBits .f32 0x3E800000#32)))
          shapeCasts_S64x2048_S1x1x64x2048 := rfl

/-- A bank's product at row `r`, column `t`: the value row against the clipped exponentials of that column's scores. -/
theorem prod_apply (q : Vec Ideal S1x1x64x2048 .bf16) (k : Vec Ideal S1x1x4096x64 .f32)
    (v : Vec Ideal S1x1x72x4096 .bf16) (r : Fin 72) (t : Fin 2048) :
    prod q k v (ix2 r t)
      = ∑ s : Fin 4096, v (ix4 0 0 r s) * clip2 (∑ e : Fin 64, k (ix4 0 0 s e) * logTwoE * q (ix4 0 0 e t)) := by
  pointwise [prod, k0_pay4, k0_pay2]
  rfl

/-- A bank's term at row `d`, column `t`. -/
theorem term_apply (q : Vec Ideal S1x1x64x2048 .bf16) (k : Vec Ideal S1x1x4096x64 .f32)
    (v : Vec Ideal S1x1x72x4096 .bf16) (d : Fin 64) (t : Fin 2048) :
    term q k v (ix2 d t)
      = Ideal.div
          (∑ s : Fin 4096, v (ix4 0 0 (d.castLE (by decide)) s)
            * clip2 (∑ e : Fin 64, k (ix4 0 0 s e) * logTwoE * q (ix4 0 0 e t)))
          (∑ s : Fin 4096, v (ix4 0 0 64 s)
            * clip2 (∑ e : Fin 64, k (ix4 0 0 s e) * logTwoE * q (ix4 0 0 e t))) := by
  rw [← prod_apply, ← prod_apply]
  unfold term
  generalize prod q k v = y
  pointwise
  rfl

/-- One bank's term as a function of the kernel's blocks, at bank `i`, row `d`, column `t`. -/
def blockTerm (x0 : Vec Ideal S1x1x64x2048 .bf16) (x1 : Vec Ideal S4x1x4096x64 .f32) (x2 : Vec Ideal S4x1x72x4096 .bf16)
    (i : Fin 4) (d : Fin 64) (t : Fin 2048) : EReal :=
  Ideal.div
    (∑ s : Fin 4096, x2 (ix4 i 0 (d.castLE (by decide)) s)
      * clip2 (∑ e : Fin 64, x1 (ix4 i 0 s e) * logTwoE * x0 (ix4 0 0 e t)))
    (∑ s : Fin 4096, x2 (ix4 i 0 64 s) * clip2 (∑ e : Fin 64, x1 (ix4 i 0 s e) * logTwoE * x0 (ix4 0 0 e t)))

theorem hz : (![0, 0, 0, 0] : Fin 4 → Nat) = fun _ => 0 := funext fun a => by fin_cases a <;> rfl

/-- The block the body leaves, at row `d`, column `t`: the sum of the four banks' terms times the constant. -/
theorem out_apply (x0 : Vec Ideal S1x1x64x2048 .bf16) (x1 : Vec Ideal S4x1x4096x64 .f32)
    (x2 : Vec Ideal S4x1x72x4096 .bf16) (d : Fin 64) (t : Fin 2048) :
    out0_3 x0 x1 x2 (ix4 0 0 d t)
      = (blockTerm x0 x1 x2 0 d t + blockTerm x0 x1 x2 1 d t + blockTerm x0 x1 x2 2 d t + blockTerm x0 x1 x2 3 d t)
          * Ideal.ofBits .f32 0x3E800000#32 := by
  unfold out0_3 k0_pay7
  rw [View.canon_unit_zero hz, View.ld_unit_zero hz, pay_eq]
  pointwise
  simp only [term_apply]
  pointwise [blockTerm]

end Cert.Proof.KernelBlock

end
-- ==== Proof.KernelArray.lean ====
/- Hand-written, untrusted: the array the kernel's launch leaves, as one function of the three arrays it is given
   (`final3`). Every grid point writes back its block of that function (`flushed3_eq`), and the 32 blocks, one for each
   batch row and head, fill the array (`covered3`). -/
module

public import proofs.«01_k».proof.Proof.KernelBlock

@[expose] public section

noncomputable section

namespace Cert.Proof.KernelArray

open Cert.KernelIdeal Cert.KernelIdeal.Gen Cert.Proof.KernelBlock Idealize.ShloMosaic Idealize.ShloMosaic.TcCoe
  Idealize.SL.Sem

/-- One bank's term as a function of the launch's arrays, at bank `i`, batch row `b`, head `h`, row `d`, column `t`. -/
def arrTerm (x0 : Vec Ideal S2x16x64x2048 .bf16) (x1 : Vec Ideal S4x16x4096x64 .f32) (x2 : Vec Ideal S4x16x72x4096 .bf16)
    (i : Fin 4) (b : Fin 2) (h : Fin 16) (d : Fin 64) (t : Fin 2048) : EReal :=
  Ideal.div
    (∑ s : Fin 4096, x2 (ix4 i h (d.castLE (by decide)) s)
      * clip2 (∑ e : Fin 64, x1 (ix4 i h s e) * logTwoE * x0 (ix4 b h e t)))
    (∑ s : Fin 4096, x2 (ix4 i h 64 s) * clip2 (∑ e : Fin 64, x1 (ix4 i h s e) * logTwoE * x0 (ix4 b h e t)))

/-- The launch's result at an index given by its coordinates: the sum of the four banks' terms times the constant. -/
def arrAtIx (x0 : Vec Ideal S2x16x64x2048 .bf16) (x1 : Vec Ideal S4x16x4096x64 .f32) (x2 : Vec Ideal S4x16x72x4096 .bf16)
    (b : Fin 2) (h : Fin 16) (d : Fin 64) (t : Fin 2048) : EReal :=
  (arrTerm x0 x1 x2 0 b h d t + arrTerm x0 x1 x2 1 b h d t + arrTerm x0 x1 x2 2 b h d t + arrTerm x0 x1 x2 3 b h d t)
    * Ideal.ofBits .f32 0x3E800000#32

/-- The launch's result, as one function of its three arrays. -/
def G (x0 : Vec Ideal S2x16x64x2048 .bf16) (x1 : Vec Ideal S4x16x4096x64 .f32) (x2 : Vec Ideal S4x16x72x4096 .bf16) :
    Vec Ideal S2x16x64x2048 .f32 :=
  fun j => arrAtIx x0 x1 x2 (j 0) (j 1) (j 2) (j 3)

variable (m : (ℓ : Loc nD τ sig) → Buf (Elt Ideal) ℓ)

/-- At every grid point: the query's block is the output's; the two banks' blocks are all banks of the output's head; and
    the output's block is one batch row and one head, whole on the other two axes. -/
theorem idx_facts : ∀ t : Fin cfg0.N,
    (win0_3.index t (0 : Fin 4) < 2 ∧ win0_3.index t (1 : Fin 4) < 16
      ∧ win0_3.index t (2 : Fin 4) = 0 ∧ win0_3.index t (3 : Fin 4) = 0)
    ∧ (win0_0.index t (0 : Fin 4) = win0_3.index t (0 : Fin 4) ∧ win0_0.index t (1 : Fin 4) = win0_3.index t (1 : Fin 4)
      ∧ win0_0.index t (2 : Fin 4) = 0 ∧ win0_0.index t (3 : Fin 4) = 0)
    ∧ (win0_1.index t (0 : Fin 4) = 0 ∧ win0_1.index t (1 : Fin 4) = win0_3.index t (1 : Fin 4)
      ∧ win0_1.index t (2 : Fin 4) = 0 ∧ win0_1.index t (3 : Fin 4) = 0)
    ∧ (win0_2.index t (0 : Fin 4) = 0 ∧ win0_2.index t (1 : Fin 4) = win0_3.index t (1 : Fin 4)
      ∧ win0_2.index t (2 : Fin 4) = 0 ∧ win0_2.index t (3 : Fin 4) = 0) :=
  (by decide +kernel : ∀ t : Fin grid0.N, _)

/-- Every batch row and head is some grid point's. -/
theorem idx_onto : ∀ (b : Fin 2) (h : Fin 16), ∃ t : Fin cfg0.N,
    win0_3.index t (0 : Fin 4) = b.val ∧ win0_3.index t (1 : Fin 4) = h.val :=
  (by decide +kernel : ∀ (b : Fin 2) (h : Fin 16), ∃ t : Fin grid0.N, _)

/-- The batch row of a grid point. -/
def bt (t : Fin cfg0.N) : Fin 2 := ⟨win0_3.index t (0 : Fin 4), (idx_facts t).1.1⟩
/-- The head of a grid point. -/
def hd (t : Fin cfg0.N) : Fin 16 := ⟨win0_3.index t (1 : Fin 4), (idx_facts t).1.2.1⟩

/-- An index of the output's block is the array's index at the point's batch row and head. -/
theorem emb3 (t : Fin cfg0.N) (d : Fin 64) (c : Fin 2048) :
    ((cfg0.win 3).blk t).view.emb (ix4 0 0 d c) = (ix4 (bt t) (hd t) d c : S2x16x64x2048.Idx) := by
  obtain ⟨⟨-, -, e2, e3⟩, -⟩ := idx_facts t
  funext a; apply Fin.ext
  match a with
  | ⟨0, _⟩ => show win0_3.index t (0 : Fin 4) * 1 + 1 * 0 = win0_3.index t (0 : Fin 4); omega
  | ⟨1, _⟩ => show win0_3.index t (1 : Fin 4) * 1 + 1 * 0 = win0_3.index t (1 : Fin 4); omega
  | ⟨2, _⟩ => show win0_3.index t (2 : Fin 4) * 64 + 1 * d.val = d.val; omega
  | ⟨3, _⟩ => show win0_3.index t (3 : Fin 4) * 2048 + 1 * c.val = c.val; omega

/-- The query's block, read: the query's array at the point's batch row and head. -/
theorem iblk0_apply (c : Dev nD) (t : Fin cfg0.N) (e : Fin 64) (k : Fin 2048) :
    iblk m c 0 t (ix4 0 0 e k) = V m c main_v1 (ix4 (bt t) (hd t) e k) := by
  obtain ⟨-, ⟨e0, e1, e2, e3⟩, -⟩ := idx_facts t
  refine congrArg (V m c main_v1) (funext fun a => Fin.ext ?_)
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 64 + 1 * e.val = e.val; omega
  | ⟨3, _⟩ => show win0_0.index t (3 : Fin 4) * 2048 + 1 * k.val = k.val; omega

/-- The key banks' block, read: the key banks' array at the point's head. -/
theorem iblk1_apply (c : Dev nD) (t : Fin cfg0.N) (i : Fin 4) (s : Fin 4096) (e : Fin 64) :
    iblk m c 1 t (ix4 i 0 s e) = V m c main_arg1 (ix4 i (hd t) s e) := by
  obtain ⟨-, -, ⟨e0, e1, e2, e3⟩, -⟩ := idx_facts t
  refine congrArg (V m c main_arg1) (funext fun a => Fin.ext ?_)
  match a with
  | ⟨0, _⟩ => show win0_1.index t (0 : Fin 4) * 4 + 1 * i.val = i.val; omega
  | ⟨1, _⟩ => show win0_1.index t (1 : Fin 4) * 1 + 1 * 0 = win0_3.index t (1 : Fin 4); omega
  | ⟨2, _⟩ => show win0_1.index t (2 : Fin 4) * 4096 + 1 * s.val = s.val; omega
  | ⟨3, _⟩ => show win0_1.index t (3 : Fin 4) * 64 + 1 * e.val = e.val; omega

/-- The value banks' block, read: the value banks' array at the point's head. -/
theorem iblk2_apply (c : Dev nD) (t : Fin cfg0.N) (i : Fin 4) (r : Fin 72) (s : Fin 4096) :
    iblk m c 2 t (ix4 i 0 r s) = V m c main_v7 (ix4 i (hd t) r s) := by
  obtain ⟨-, -, -, e0, e1, e2, e3⟩ := idx_facts t
  refine congrArg (V m c main_v7) (funext fun a => Fin.ext ?_)
  match a with
  | ⟨0, _⟩ => show win0_2.index t (0 : Fin 4) * 4 + 1 * i.val = i.val; omega
  | ⟨1, _⟩ => show win0_2.index t (1 : Fin 4) * 1 + 1 * 0 = win0_3.index t (1 : Fin 4); omega
  | ⟨2, _⟩ => show win0_2.index t (2 : Fin 4) * 72 + 1 * r.val = r.val; omega
  | ⟨3, _⟩ => show win0_2.index t (3 : Fin 4) * 4096 + 1 * s.val = s.val; omega

/-- A bank's term over the point's blocks is the bank's term over the arrays, at the point's batch row and head. -/
theorem blockTerm_eq (c : Dev nD) (t : Fin cfg0.N) (i : Fin 4) (d : Fin 64) (k : Fin 2048) :
    blockTerm (iblk m c 0 t) (iblk m c 1 t) (iblk m c 2 t) i d k
      = arrTerm (V m c main_v1) (V m c main_arg1) (V m c main_v7) i (bt t) (hd t) d k := by
  unfold blockTerm arrTerm
  simp only [iblk0_apply, iblk1_apply, iblk2_apply]

/-- What a point writes back is its block of the launch's result. -/
theorem flushed3_eq (c : Dev nD) (t : Fin cfg0.N) :
    (dats m 0 c).flushed 3 t
      = ((cfg0.win 3).blk t).view.read (Elt Ideal) (G (V m c main_v1) (V m c main_arg1) (V m c main_v7)) := by
  show (cfg0.win 3).cut (grid0.coords t) ((dats m 0 c).after 3 t) = _
  rw [after0_3]
  refine funext fun (j : S1x1x64x2048.Idx) => ?_
  obtain ⟨d, k, rfl⟩ : ∃ (d : Fin 64) (k : Fin 2048), j = ix4 0 0 d k :=
    ⟨j 2, j 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
  show out0_3 (iblk m c 0 t) (iblk m c 1 t) (iblk m c 2 t) (ix4 0 0 d k)
    = G (V m c main_v1) (V m c main_arg1) (V m c main_v7) (((cfg0.win 3).blk t).view.emb (ix4 0 0 d k))
  rw [out_apply, emb3]
  simp only [blockTerm_eq]
  rfl

/-- Every index of the result is in the block of the point of its batch row and head. -/
theorem covered3 (i : S2x16x64x2048.Idx) :
    ∃ t : Fin cfg0.N, (cfg0.win 3).flush t = true ∧ i ∈ ((cfg0.win 3).blk t).view.set := by
  obtain ⟨t, h0, h1⟩ := idx_onto (i 0) (i 1)
  refine ⟨t, flush0_3 t, ?_⟩
  have h := ((cfg0.win 3).blk t).view.emb_mem_set (ix4 0 0 (i 2) (i 3) : S1x1x64x2048.Idx)
  have e : (ix4 (bt t) (hd t) (i 2) (i 3) : S2x16x64x2048.Idx) = i := funext fun a => by
    match a with
    | ⟨0, _⟩ => exact Fin.ext h0
    | ⟨1, _⟩ => exact Fin.ext h1
    | ⟨2, _⟩ => rfl
    | ⟨3, _⟩ => rfl
  exact (congrArg (· ∈ ((cfg0.win 3).blk t).view.set) ((emb3 t (i 2) (i 3)).trans e)).mp h

/-- The array the launch leaves. -/
theorem final3 (c : Dev nD) :
    (dats m 0 c).arrAt 3 cfg0.N = G (V m c main_v1) (V m c main_arg1) (V m c main_v7) :=
  (dats m 0 c).arrAt_eq_of_cover 3 _ (fun t _ => flushed3_eq m c t) covered3

end Cert.Proof.KernelArray

end
-- ==== Proof.Consts.lean ====
/- Hand-written, untrusted: the extended reals that the programs' literals are. -/
module

public import proofs.«01_k».proof.Proof.KernelBlock
public import Idealize.ShloMosaic.Lib.IdealHost
public import Idealize.ShloMosaic.PureOps.IdealRules

@[expose] public section

noncomputable section

namespace Cert.Proof.Consts

open Idealize.ShloMosaic Cert.Proof.KernelBlock

/-- The upper clip bound is `80`. -/
theorem eighty : Ideal.ofBits .f32 0x42A00000#32 = ((80 : ℝ) : EReal) := by
  simp [Ideal.ofBits, Ideal.ieee, -EReal.coe_mul]; norm_num

/-- The lower clip bound is `-80`. -/
theorem neg_eighty : Ideal.ofBits .f32 0xC2A00000#32 = ((-80 : ℝ) : EReal) := by
  simp [Ideal.ofBits, Ideal.ieee, -EReal.coe_mul]; norm_num

/-- The kernel's last factor is `1/4`. -/
theorem quarter : Ideal.ofBits .f32 0x3E800000#32 = ((1 / 4 : ℝ) : EReal) := by
  simp [Ideal.ofBits, Ideal.ieee, -EReal.coe_mul]; norm_num

/-- The reference's last divisor is `4`. -/
theorem four : Ideal.ofBits .f32 0x40800000#32 = ((4 : ℝ) : EReal) := by
  simp [Ideal.ofBits, Ideal.ieee, -EReal.coe_mul]; norm_num

/-- The reference's maximum starts from `-∞`. -/
theorem neg_inf : Ideal.ofBits .f32 0xFF800000#32 = (⊥ : EReal) := by
  simp [Ideal.ofBits, Ideal.ieee]

/-- The bound on the scores is a real of at most `55.4501`. -/
theorem score_bound : ∃ r : ℝ, Ideal.ofBits .f32 0x425DCCCD#32 = (r : EReal) ∧ r ≤ 55.4501 := by
  refine ⟨14535885 / 262144, ?_, by norm_num⟩
  simp [Ideal.ofBits, Ideal.ieee, -EReal.coe_mul]; norm_num

/-- The kernel's named factor is `1 / log 2`. -/
theorem logTwoE_eq : logTwoE = (((Real.log 2)⁻¹ : ℝ) : EReal) :=
  IdealRules.named_const.ideal_named_scalar _ _ _ _ rfl

end Cert.Proof.Consts

end
-- ==== Proof.KernelRun.lean ====
/- Hand-written, untrusted: what the whole kernel computes. The host lines before the launch swap the last two axes of
   the queries and of the value banks and put a row of ones and seven of zeros under each value bank; the line after it
   swaps the axes back. The result is then one function of the three arguments (`result`, `run`). -/
module

public import proofs.«01_k».proof.Proof.KernelArray
public import proofs.«01_k».proof.Proof.Consts

@[expose] public section

noncomputable section

namespace Cert.Proof.KernelRun

open Cert.KernelIdeal Cert.KernelIdeal.Gen Cert.Proof.KernelBlock Cert.Proof.KernelArray Idealize.ShloMosaic
  Idealize.ShloMosaic.TcCoe Idealize.SL.Sem

variable (m : (ℓ : Loc nD τ sig) → Buf (Elt Ideal) ℓ)

/-- The array of queries that the launch is given: the last two axes swapped. -/
theorem queries_apply (c : Dev nD) (b : Fin 2) (h : Fin 16) (e : Fin 64) (t : Fin 2048) :
    V m c main_v1 (ix4 b h e t) = (m ((c : Thread nD τ).loc main_arg0) : Vec Ideal S2x16x2048x64 .f32) (ix4 b h t e) := by
  have e : (V m c main_v1 : Vec Ideal S2x16x64x2048 .bf16)
      = truncf (F := Ideal) .bf16 (transpose S2x16x64x2048 [0, 1, 3, 2]
          (m ((c : Thread nD τ).loc main_arg0) : Vec Ideal S2x16x2048x64 .f32)
          transposes_S2x16x2048x64_S2x16x64x2048_0_1_3_2) bitsLt_bf16_f32 := by
    show StableHlo.after hostOps0 (fun b => m (c, b)) (Proc.devRef .tc main_v1) = _
    unfold hostOps0
    after_results
  rw [e]
  pointwise

/-- The array of value banks that the launch is given: the banks with their last two axes swapped, and under them a row
    of ones and seven of zeros. -/
theorem values_eq (c : Dev nD) : (V m c main_v7 : Vec Ideal S4x16x72x4096 .bf16)
    = concatenate S4x16x72x4096 2
        [⟨S4x16x64x4096, truncf (F := Ideal) .bf16 (transpose S4x16x64x4096 [0, 1, 3, 2]
          (m ((c : Thread nD τ).loc main_arg2) : Vec Ideal S4x16x4096x64 .f32)
          transposes_S4x16x4096x64_S4x16x64x4096_0_1_3_2) bitsLt_bf16_f32⟩,
         ⟨S4x16x8x4096, concatenate S4x16x8x4096 2
          [⟨S4x16x1x4096, broadcastInDim S4x16x1x4096 ![] bcast_S_S4x16x1x4096 (constant (F := Ideal) S_ .bf16 0x3F80#16)⟩,
           ⟨S4x16x7x4096, broadcastInDim S4x16x7x4096 ![] bcast_S_S4x16x7x4096 (constant (F := Ideal) S_ .bf16 0x0000#16)⟩]
          concatenates_S4x16x1x4096_S4x16x7x4096_S4x16x8x4096_d2⟩]
        concatenates_S4x16x64x4096_S4x16x8x4096_S4x16x72x4096_d2 := by
  show StableHlo.after hostOps0 (fun b => m (c, b)) (Proc.devRef .tc main_v7) = _
  unfold hostOps0
  after_results

/-- Its first 64 rows are the bank's. -/
theorem values_apply (c : Dev nD) (i : Fin 4) (h : Fin 16) (d : Fin 64) (s : Fin 4096) :
    V m c main_v7 (ix4 i h (d.castLE (by decide)) s)
      = (m ((c : Thread nD τ).loc main_arg2) : Vec Ideal S4x16x4096x64 .f32) (ix4 i h s d) := by
  rw [values_eq]
  pointwise
  exact dif_pos d.2

/-- Its row 64 is all ones. -/
theorem ones_apply (c : Dev nD) (i : Fin 4) (h : Fin 16) (s : Fin 4096) :
    V m c main_v7 (ix4 i h 64 s) = (1 : EReal) := by
  rw [values_eq]
  pointwise

/-- One bank's term over the kernel's own arguments, at bank `i`, batch row `b`, head `h`, row `t`, column `d`. -/
def bank (q : Vec Ideal S2x16x2048x64 .f32) (k v : Vec Ideal S4x16x4096x64 .f32)
    (i : Fin 4) (b : Fin 2) (h : Fin 16) (t : Fin 2048) (d : Fin 64) : EReal :=
  Ideal.div
    (∑ s : Fin 4096, v (ix4 i h s d) * clip2 (∑ e : Fin 64, k (ix4 i h s e) * logTwoE * q (ix4 b h t e)))
    (∑ s : Fin 4096, 1 * clip2 (∑ e : Fin 64, k (ix4 i h s e) * logTwoE * q (ix4 b h t e)))

/-- The kernel's result at an index given by its coordinates: the sum of the four banks' terms times the constant. -/
def resultAt (q : Vec Ideal S2x16x2048x64 .f32) (k v : Vec Ideal S4x16x4096x64 .f32)
    (b : Fin 2) (h : Fin 16) (t : Fin 2048) (d : Fin 64) : EReal :=
  (bank q k v 0 b h t d + bank q k v 1 b h t d + bank q k v 2 b h t d + bank q k v 3 b h t d)
    * Ideal.ofBits .f32 0x3E800000#32

/-- The kernel's result, as one function of its three arguments. -/
def result (q : Vec Ideal S2x16x2048x64 .f32) (k v : Vec Ideal S4x16x4096x64 .f32) : Vec Ideal S2x16x2048x64 .f32 :=
  fun j => resultAt q k v (j 0) (j 1) (j 2) (j 3)

/-- A bank's term over arrays that hold the arguments as the launch's do is the bank's term over the arguments. -/
theorem arrTerm_eq {x0 : Vec Ideal S2x16x64x2048 .bf16} {x1 : Vec Ideal S4x16x4096x64 .f32}
    {x2 : Vec Ideal S4x16x72x4096 .bf16} {q : Vec Ideal S2x16x2048x64 .f32} {v : Vec Ideal S4x16x4096x64 .f32}
    (h0 : ∀ b h e t, x0 (ix4 b h e t) = q (ix4 b h t e))
    (h2 : ∀ i h (d : Fin 64) s, x2 (ix4 i h (d.castLE (by decide)) s) = v (ix4 i h s d))
    (h3 : ∀ i h s, x2 (ix4 i h 64 s) = (1 : EReal))
    (i : Fin 4) (b : Fin 2) (h : Fin 16) (d : Fin 64) (t : Fin 2048) :
    arrTerm x0 x1 x2 i b h d t = bank q x1 v i b h t d := by
  unfold arrTerm bank
  simp only [h0, h2, h3]

/-- The launch's result with its last two axes swapped is `result`, when the arrays hold the arguments as the launch's do. -/
theorem transposed_eq {x0 : Vec Ideal S2x16x64x2048 .bf16} {x1 : Vec Ideal S4x16x4096x64 .f32}
    {x2 : Vec Ideal S4x16x72x4096 .bf16} {q : Vec Ideal S2x16x2048x64 .f32} {v : Vec Ideal S4x16x4096x64 .f32}
    (h0 : ∀ b h e t, x0 (ix4 b h e t) = q (ix4 b h t e))
    (h2 : ∀ i h (d : Fin 64) s, x2 (ix4 i h (d.castLE (by decide)) s) = v (ix4 i h s d))
    (h3 : ∀ i h s, x2 (ix4 i h 64 s) = (1 : EReal)) :
    transpose S2x16x2048x64 [0, 1, 3, 2] (G x0 x1 x2) transposes_S2x16x64x2048_S2x16x2048x64_0_1_3_2
      = result q x1 v := by
  have key : ∀ (b : Fin 2) (h : Fin 16) (d : Fin 64) (t : Fin 2048),
      arrAtIx x0 x1 x2 b h d t = resultAt q x1 v b h t d := fun b h d t => by
    unfold arrAtIx resultAt
    simp only [arrTerm_eq h0 h2 h3]
  funext j
  rw [eq_ix4 j]
  exact key (j 0) (j 1) (j 3) (j 2)

/-- The result's buffer after the line that follows the launch. -/
theorem tail_eq (c : Dev nD) :
    Pipeline.afterTail₀ cfgs (dats m) 0 (V0 m) [hostOps1] c main_v9
      = result (m ((c : Thread nD τ).loc main_arg0)) (m ((c : Thread nD τ).loc main_arg1))
          (m ((c : Thread nD τ).loc main_arg2)) := by
  have e : (Pipeline.afterTail₀ cfgs (dats m) 0 (V0 m) [hostOps1] c main_v9 : Vec Ideal S2x16x2048x64 .f32)
      = transpose S2x16x2048x64 [0, 1, 3, 2]
          ((dats m 0 c).arrAt 3 cfg0.N : Vec Ideal S2x16x64x2048 .f32)
          transposes_S2x16x64x2048_S2x16x2048x64_0_1_3_2 := by
    unfold Pipeline.afterTail₀
    show StableHlo.after hostOps1 _ (Proc.devRef .tc main_v9) = _
    unfold hostOps1
    after_results
    exact congrArg (transpose S2x16x2048x64 [0, 1, 3, 2] · transposes_S2x16x64x2048_S2x16x2048x64_0_1_3_2)
      (Pipeline.withArrays_arr spec0 launch0.win.arr_inj c (V0 m c) _ 3)
  refine e.trans ?_
  rw [final3]
  refine (transposed_eq (queries_apply m c) (values_apply m c) (ones_apply m c)).trans ?_
  rw [V_main_arg1]

/-- The kernel's run: the result is `result` of the arguments, which end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v9 (Pipeline.mem_restRefs_of main_v9 (by decide) (by decide))).trans (tail_eq m c), h.2 c⟩)
    (θ_run_and (run_main m ρ) (unchanged m ρ))

end Cert.Proof.KernelRun

end
-- ==== Proof.Softmax.lean ====
/- Hand-written, untrusted: the real-number part of the proof, free of shapes and programs. A sum over the extended reals
   times a nonnegative real distributes; at scores in range the kernel's clipped base-two exponential is the exponential;
   a weighted mean whose weights are `exp s` is the mean weighted by the softmax of `s`, whatever real is subtracted from
   the scores first, and whatever the extended reals averaged. -/
module

public import Idealize.ShloMosaic.PureOps.Ideal
public import Idealize.ShloMosaic.PureOps.Ideal.Laws

@[expose] public section

noncomputable section

namespace Cert.Proof.Softmax

open Idealize.ShloMosaic

variable {ι : Type*}

/-- A sum of extended reals times a nonnegative real is the sum of the products. -/
theorem sum_mul_real (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

/-- A sum of reals is the same number among the extended reals. -/
theorem sum_real (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The reciprocal of the natural logarithm of two is nonnegative. -/
theorem inv_log_two_nonneg : 0 ≤ (Real.log 2)⁻¹ := inv_nonneg.mpr (Real.log_nonneg (by norm_num))

/-- Scaling one factor of every product of a contraction by `1 / log 2` scales the contraction. -/
theorem dot_scaled (S : Finset ι) (f g : ι → EReal) :
    ∑ i ∈ S, f i * (((Real.log 2)⁻¹ : ℝ) : EReal) * g i
      = (∑ i ∈ S, f i * g i) * (((Real.log 2)⁻¹ : ℝ) : EReal) := by
  rw [sum_mul_real S _ inv_log_two_nonneg]
  exact Finset.sum_congr rfl fun i _ => mul_right_comm _ _ _

/-- The natural logarithm of two is above `0.69313`: the exponential of that number, bounded by its series, is below two. -/
theorem log_two_gt : (0.69313 : ℝ) < Real.log 2 := by
  rw [Real.lt_log_iff_exp_lt (by norm_num)]
  refine (Real.exp_bound' (by norm_num) (by norm_num) (n := 10) (by norm_num)).trans_lt ?_
  norm_num [Finset.sum_range_succ, Nat.factorial]

/-- A real of absolute value at most `55.4501` times `1 / log 2` is of absolute value at most `80`. -/
theorem scaled_le {x : ℝ} (h : |x| ≤ 55.4501) : |x * (Real.log 2)⁻¹| ≤ 80 := by
  have hl := log_two_gt
  have h0 : (0 : ℝ) < Real.log 2 := by linarith
  rw [abs_mul, abs_of_pos (inv_pos.mpr h0), ← div_eq_mul_inv, div_le_iff₀ h0]
  nlinarith

/-- Two to the power `x / log 2` is `exp x`. -/
theorem two_rpow (x : ℝ) : Real.rpow 2 (x * (Real.log 2)⁻¹) = Real.exp x := by
  have h0 : Real.log 2 ≠ 0 := (Real.log_pos (by norm_num)).ne'
  show (2 : ℝ) ^ (x * (Real.log 2)⁻¹) = _
  rw [Real.rpow_def_of_pos (by norm_num)]
  congr 1
  field_simp

/-- At a score in range the clip to `[-80, 80]` changes nothing and the base-two exponential of the scaled score is the
    exponential of the score. -/
theorem exp2_clip {x : ℝ} (h : |x| ≤ 55.4501) :
    Ideal.exp2 (min ((80 : ℝ) : EReal) (max ((-80 : ℝ) : EReal) ((x : EReal) * (((Real.log 2)⁻¹ : ℝ) : EReal))))
      = (Real.exp x : EReal) := by
  obtain ⟨h1, h2⟩ := abs_le.mp (scaled_le h)
  rw [← EReal.coe_mul, max_eq_right (EReal.coe_le_coe_iff.mpr h1), min_eq_right (EReal.coe_le_coe_iff.mpr h2),
    Ideal.exp2_coe, two_rpow]

/-- A score whose absolute value is at most a real is a real, of that absolute value. -/
theorem real_of_abs_le {s : EReal} {r : ℝ} (h : max s (-s) ≤ (r : EReal)) : ∃ x : ℝ, s = (x : EReal) ∧ |x| ≤ r := by
  induction s using EReal.rec with
  | bot => simp at h
  | top => simp at h
  | coe x =>
    refine ⟨x, rfl, abs_le'.mpr ⟨?_, ?_⟩⟩
    · exact_mod_cast (le_max_left _ _).trans h
    · have h' := (le_max_right _ _).trans h
      rw [← EReal.coe_neg] at h'
      exact_mod_cast h'

/-- The greatest of a nonempty finite set of reals, the fold begun at minus infinity, is a real. -/
theorem fold_max_real (S : Finset ι) (hS : S.Nonempty) (f : ι → ℝ) :
    ∃ M : ℝ, max ⊥ (S.fold max ⊥ fun i => (f i : EReal)) = (M : EReal) := by
  classical
  rw [max_eq_right bot_le]
  induction hS using Finset.Nonempty.cons_induction with
  | singleton a => exact ⟨f a, by simp⟩
  | cons a S ha _ ih =>
    obtain ⟨M, hM⟩ := ih
    exact ⟨max (f a) M, by rw [Finset.fold_cons, hM, EReal.coe_strictMono.monotone.map_max]⟩

/-- The mean of `v` with weights `exp s` (numerator and denominator summed apart, then divided once) is the sum of `v`
    against the softmax of `s`, the scores shifted by any real `M`. -/
theorem mean_eq_softmax [Fintype ι] [Nonempty ι] (s : ι → ℝ) (v : ι → EReal) (M : ℝ) :
    Ideal.div (∑ i, v i * (Real.exp (s i) : EReal)) (∑ i, 1 * (Real.exp (s i) : EReal))
      = ∑ i, v i * Ideal.div (Ideal.exp ((s i : EReal) - (M : EReal)))
          (0 + ∑ j, Ideal.exp ((s j : EReal) - (M : EReal))) := by
  have hE : 0 < ∑ i, Real.exp (s i) :=
    Finset.sum_pos (fun i _ => Real.exp_pos _) Finset.univ_nonempty
  have hW : 0 < ∑ i, Real.exp (s i - M) :=
    Finset.sum_pos (fun i _ => Real.exp_pos _) Finset.univ_nonempty
  have hsum : ∑ i, Real.exp (s i - M) = (∑ i, Real.exp (s i)) * Real.exp (-M) := by
    rw [Finset.sum_mul]
    exact Finset.sum_congr rfl fun i _ => by rw [← Real.exp_add, sub_eq_add_neg]
  simp only [one_mul, zero_add, ← EReal.coe_sub, Ideal.exp_coe]
  rw [sum_real, sum_real, Ideal.div_coe hE.ne', sum_mul_real _ _ (by positivity)]
  refine Finset.sum_congr rfl fun i _ => ?_
  rw [Ideal.div_coe hW.ne', mul_assoc, ← EReal.coe_mul, ← EReal.coe_mul, hsum, sub_eq_add_neg, Real.exp_add]
  congr 2
  have := (Real.exp_pos (-M)).ne'
  field_simp

end Cert.Proof.Softmax

end
-- ==== Proof.RefBank.lean ====
/- Hand-written, untrusted: what the reference computes for one bank. The reference repeats one computation for each of
   the four banks, on that bank's keys and values: its steps are named once (`scores`, `maxes`, `weights`, `probs`,
   `mean`), each is read once at an index, and each bank's value is these steps of its slices (`bank0_eq` and the three
   after it). -/
module

public import proofs.«01_k».proof.Proof.Gen.ReferenceIdeal.Read
public import proofs.«01_k».proof.Proof.Gen.ReferenceIdeal.Run
public import proofs.«01_k».proof.Proof.Softmax
public import proofs.«01_k».proof.Proof.Consts
public import Idealize.ShloMosaic.Lib.Pointwise

@[expose] public section

noncomputable section

namespace Cert.Proof.RefBank

open Cert.ReferenceIdeal Cert.ReferenceIdeal.Gen Cert.ReferenceIdeal.Read Idealize.ShloMosaic Cert.Proof.Softmax

/-- The scores of the queries `q` against one bank's keys. -/
def scores (q : FVec Ideal S2x16x2048x64 .f32) (k : FVec Ideal S16x4096x64 .f32) : FVec Ideal S2x16x2048x4096 .f32 :=
  transpose S2x16x2048x4096 [2, 0, 3, 1]
    (Host.dotGeneral dot_S16x4096x64_S2x16x2048x64_S16x4096x2x2048_2_3_1_02_0_1 none k q)
    transposes_S16x4096x2x2048_S2x16x2048x4096_2_0_3_1

/-- The largest score of each row. -/
def maxes (s : FVec Ideal S2x16x2048x4096 .f32) : FVec Ideal S2x16x2048 .f32 :=
  maximumf (broadcastInDim S2x16x2048 ![] bcast_S_S2x16x2048 (constant (F := Ideal) S_ .f32 0xFF800000#32))
    (Host.reduce FloatOps.maximumf s (constant (F := Ideal) S_ .f32 0xFF800000#32)
      reducesTo_S2x16x2048x4096_S2x16x2048_d3 h_S_)

/-- A number for each row, repeated along the row. -/
def along (x : FVec Ideal S2x16x2048 .f32) : FVec Ideal S2x16x2048x4096 .f32 :=
  broadcastInDim S2x16x2048x4096 ![0, 1, 2, 3] bcast_S2x16x2048x1_S2x16x2048x4096_0_1_2_3
    (broadcastInDim S2x16x2048x1 ![0, 1, 2] bcast_S2x16x2048_S2x16x2048x1_0_1_2 x)

/-- The exponentials of the scores less their row's number. -/
def weights (s : FVec Ideal S2x16x2048x4096 .f32) (x : FVec Ideal S2x16x2048 .f32) : FVec Ideal S2x16x2048x4096 .f32 :=
  Host.exp (subf s (along x))

/-- Each row divided by its sum. -/
def probs (w : FVec Ideal S2x16x2048x4096 .f32) : FVec Ideal S2x16x2048x4096 .f32 :=
  Host.divf w (along (Host.reduceAdd w (constant (F := Ideal) S_ .f32 0x00000000#32)
    reducesTo_S2x16x2048x4096_S2x16x2048_d3 h_S_))

/-- The values' sum with the weights `p`. -/
def mean (p : FVec Ideal S2x16x2048x4096 .f32) (v : FVec Ideal S16x4096x64 .f32) : FVec Ideal S2x16x2048x64 .f32 :=
  transpose S2x16x2048x64 [2, 0, 3, 1]
    (Host.dotGeneral dot_S16x4096x64_S2x16x2048x4096_S16x64x2x2048_1_3_2_02_0_1 none v p)
    transposes_S16x64x2x2048_S2x16x2048x64_2_0_3_1

/-- One bank's softmax attention. -/
def attend (q : FVec Ideal S2x16x2048x64 .f32) (k v : FVec Ideal S16x4096x64 .f32) : FVec Ideal S2x16x2048x64 .f32 :=
  mean (probs (weights (scores q k) (maxes (scores q k)))) v

variable (q : FVec Ideal S2x16x2048x64 .f32) (K V : FVec Ideal S4x16x4096x64 .f32)

/-- The first bank's value is `attend` of its slices, and so for the other three. -/
theorem bank0_eq : val_main_v19 (F := Ideal) q K V = attend q (val_main_v2 (F := Ideal) K) (val_main_v2 (F := Ideal) V) := rfl
theorem bank1_eq : val_main_v39 (F := Ideal) q K V = attend q (val_main_v22 (F := Ideal) K) (val_main_v22 (F := Ideal) V) := rfl
theorem bank2_eq : val_main_v59 (F := Ideal) q K V = attend q (val_main_v42 (F := Ideal) K) (val_main_v42 (F := Ideal) V) := rfl
theorem bank3_eq : val_main_v79 (F := Ideal) q K V = attend q (val_main_v62 (F := Ideal) K) (val_main_v62 (F := Ideal) V) := rfl

/-- The first bank's slice holds the bank's elements, and so for the other three. -/
theorem slice0_apply (h : Fin 16) (s : Fin 4096) (e : Fin 64) :
    val_main_v2 (F := Ideal) K (ix3 h s e) = K (ix4 0 h s e) := by
  pointwise [val_main_v2, val_main_v1]
theorem slice1_apply (h : Fin 16) (s : Fin 4096) (e : Fin 64) :
    val_main_v22 (F := Ideal) K (ix3 h s e) = K (ix4 1 h s e) := by
  pointwise [val_main_v22, val_main_v21]
theorem slice2_apply (h : Fin 16) (s : Fin 4096) (e : Fin 64) :
    val_main_v42 (F := Ideal) K (ix3 h s e) = K (ix4 2 h s e) := by
  pointwise [val_main_v42, val_main_v41]
theorem slice3_apply (h : Fin 16) (s : Fin 4096) (e : Fin 64) :
    val_main_v62 (F := Ideal) K (ix3 h s e) = K (ix4 3 h s e) := by
  pointwise [val_main_v62, val_main_v61]

/-- A score is the product of a key and a query. -/
theorem scores_apply (k : FVec Ideal S16x4096x64 .f32) (b : Fin 2) (h : Fin 16) (t : Fin 2048) (s : Fin 4096) :
    scores q k (ix4 b h t s) = ∑ e : Fin 64, k (ix3 h s e) * q (ix4 b h t e) := by
  pointwise [scores]

/-- A maximum of reals over one axis, from -∞, is a real. -/
theorem reduce_max_real {s t u : Shape} {a : Fin s.rank} (h' : s.ReducesTo [a] t) (h : s.Reduces [a] t) (hu : 0 < u.numel)
    (ha : 0 < s.size a) {x : s.Idx → EReal} {y : s.Idx → ℝ} (hx : ∀ i, x i = (y i : EReal)) (init : u.Idx → EReal)
    (hi : ∀ i, init i = ⊥) (j : t.Idx) :
    ∃ M : ℝ, max ⊥ (Host.reduce (max : EReal → EReal → EReal) x init h' hu j) = (M : EReal) := by
  obtain ⟨M, hM⟩ := fold_max_real (Finset.univ : Finset (Fin (s.size a))) ⟨⟨0, ha⟩, Finset.mem_univ _⟩
    fun k => y (h.lift j k)
  refine ⟨M, ?_⟩
  rw [← hM, Host.reduce_eq_fold_single _ x init h' h hu j, hi,
    show x ∘ h.lift j = fun k => (y (h.lift j k) : EReal) from funext fun k => hx _]

/-- The larger of -∞ everywhere and `z`, at an index. -/
theorem max_neg_inf_apply (z : FVec Ideal S2x16x2048 .f32) (j : S2x16x2048.Idx) :
    maximumf (broadcastInDim S2x16x2048 ![] bcast_S_S2x16x2048 (constant (F := Ideal) S_ .f32 0xFF800000#32)) z j
      = max ⊥ (z j) := by
  rw [← Consts.neg_inf]
  rfl

/-- The largest of a row of reals is a real. -/
theorem maxes_real {x : FVec Ideal S2x16x2048x4096 .f32} {y : S2x16x2048x4096.Idx → ℝ} (hx : ∀ i, x i = (y i : EReal))
    (j : S2x16x2048.Idx) : ∃ M : ℝ, maxes x j = (M : EReal) := by
  obtain ⟨M, hM⟩ := reduce_max_real reducesTo_S2x16x2048x4096_S2x16x2048_d3 (by decide) h_S_ (by decide) hx
    (constant (F := Ideal) S_ .f32 0xFF800000#32) (fun _ => Consts.neg_inf) j
  exact ⟨M, (max_neg_inf_apply _ j).trans hM⟩

/-- A row's number at any place of the row. -/
theorem along_apply (x : FVec Ideal S2x16x2048 .f32) (b : Fin 2) (h : Fin 16) (t : Fin 2048) (s : Fin 4096) :
    along x (ix4 b h t s) = x (ix3 b h t) := by
  pointwise [along]

/-- An exponential at an index. -/
theorem weights_apply (x : FVec Ideal S2x16x2048x4096 .f32) (y : FVec Ideal S2x16x2048 .f32) (b : Fin 2) (h : Fin 16)
    (t : Fin 2048) (s : Fin 4096) :
    weights x y (ix4 b h t s) = Ideal.exp (x (ix4 b h t s) - y (ix3 b h t)) := by
  pointwise [weights, along]

/-- A normalized weight at an index. -/
theorem probs_apply (w : FVec Ideal S2x16x2048x4096 .f32) (b : Fin 2) (h : Fin 16) (t : Fin 2048) (s : Fin 4096) :
    probs w (ix4 b h t s) = Ideal.div (w (ix4 b h t s)) (0 + ∑ j : Fin 4096, w (ix4 b h t j)) := by
  pointwise [probs, along]

/-- The weighted sum at an index. -/
theorem mean_apply (p : FVec Ideal S2x16x2048x4096 .f32) (v : FVec Ideal S16x4096x64 .f32) (b : Fin 2) (h : Fin 16)
    (t : Fin 2048) (d : Fin 64) :
    mean p v (ix4 b h t d) = ∑ s : Fin 4096, v (ix3 h s d) * p (ix4 b h t s) := by
  pointwise [mean]

end Cert.Proof.RefBank

end
-- ==== Proof.Equation.lean ====
/- Hand-written, untrusted: the kernel's and the reference's results are equal. Where every score of the reference has
   absolute value at most 55.4501, the clip changes no exponent, so that the kernel's powers of two are the exponentials
   of the scores; a row's largest score then cancels from the reference's quotients. -/
module

public import proofs.«01_k».proof.Proof.KernelRun
public import proofs.«01_k».proof.Proof.RefBank

@[expose] public section

noncomputable section

namespace Cert.Proof.Equation

open Cert.ReferenceIdeal Cert.ReferenceIdeal.Gen Cert.ReferenceIdeal.Read Cert.Proof.KernelBlock Cert.Proof.KernelRun
  Cert.Proof.RefBank Cert.Proof.Softmax Idealize.ShloMosaic

/-- Every score is a real of absolute value at most 55.4501. -/
def InRange (s : FVec Ideal S2x16x2048x4096 .f32) : Prop := ∀ j, ∃ x : ℝ, s j = (x : EReal) ∧ |x| ≤ 55.4501

/-- The comparison's mask is all ones only where every score is in the range. -/
theorem inRange_of_mask (s : FVec Ideal S2x16x2048x4096 .f32)
    (hb : S_.BroadcastsInDim S2x16x2048x4096 (![] : Fin 0 → Fin S2x16x2048x4096.rank))
    (h : cmpf .ole (Host.absf s)
      (broadcastInDim S2x16x2048x4096 ![] hb (constant (F := Ideal) S_ .f32 0x425DCCCD#32)) = fun _ => 1#1) :
    InRange s := by
  intro j
  obtain ⟨r, hr, hr'⟩ := Consts.score_bound
  have hj : BitVec.ofBool (decide (max (s j) (-(s j)) ≤ Ideal.ofBits .f32 0x425DCCCD#32)) = 1#1 := congrFun h j
  have hle : max (s j) (-(s j)) ≤ (r : EReal) := by
    rw [hr] at hj
    by_contra hn
    rw [decide_eq_false hn] at hj
    exact absurd hj (by decide)
  obtain ⟨x, hx, hx'⟩ := real_of_abs_le hle
  exact ⟨x, hx, hx'.trans hr'⟩

/-- With scores in the range a bank's softmax attention is the quotient of two sums over the powers of two. -/
theorem attend_apply (q : FVec Ideal S2x16x2048x64 .f32) (k v : FVec Ideal S16x4096x64 .f32) (hr : InRange (scores q k))
    (b : Fin 2) (h : Fin 16) (t : Fin 2048) (d : Fin 64) :
    attend q k v (ix4 b h t d) = Ideal.div
      (∑ s : Fin 4096, v (ix3 h s d) * clip2 (∑ e : Fin 64, k (ix3 h s e) * logTwoE * q (ix4 b h t e)))
      (∑ s : Fin 4096, 1 * clip2 (∑ e : Fin 64, k (ix3 h s e) * logTwoE * q (ix4 b h t e))) := by
  choose y hy hy' using hr
  obtain ⟨M, hM⟩ := maxes_real hy (ix3 b h t)
  have hc (s : Fin 4096) : clip2 (∑ e : Fin 64, k (ix3 h s e) * logTwoE * q (ix4 b h t e))
      = (Real.exp (y (ix4 b h t s)) : EReal) := by
    rw [Consts.logTwoE_eq, dot_scaled, ← scores_apply, hy]
    unfold clip2
    rw [Consts.eighty, Consts.neg_eighty]
    exact exp2_clip (hy' _)
  unfold attend
  rw [mean_apply]
  simp only [hc, probs_apply, weights_apply, hM, hy]
  exact (mean_eq_softmax (fun s => y (ix4 b h t s)) (fun s => v (ix3 h s d)) M).symm

variable (q : FVec Ideal S2x16x2048x64 .f32) (K V : FVec Ideal S4x16x4096x64 .f32)

/-- The kernel's term of a bank is the bank's softmax attention, over any slices that hold the bank's elements. -/
theorem bank_eq (i : Fin 4) {k v : FVec Ideal S16x4096x64 .f32} (hk : ∀ h s e, k (ix3 h s e) = K (ix4 i h s e))
    (hv : ∀ h s e, v (ix3 h s e) = V (ix4 i h s e)) (hr : InRange (scores q k)) (b : Fin 2) (h : Fin 16) (t : Fin 2048)
    (d : Fin 64) : attend q k v (ix4 b h t d) = bank q K V i b h t d := by
  rw [attend_apply q k v hr]
  simp only [hk, hv]
  rfl

/-- With every bank's scores in the range the reference's result is the kernel's. -/
theorem result_eq (h0 : InRange (scores q (val_main_v2 (F := Ideal) K))) (h1 : InRange (scores q (val_main_v22 (F := Ideal) K)))
    (h2 : InRange (scores q (val_main_v42 (F := Ideal) K))) (h3 : InRange (scores q (val_main_v62 (F := Ideal) K))) :
    val_main_v82 (F := Ideal) q K V = result q K V := by
  have key (b : Fin 2) (h : Fin 16) (t : Fin 2048) (d : Fin 64) :
      val_main_v82 (F := Ideal) q K V (ix4 b h t d) = resultAt q K V b h t d := by
    have e0 : val_main_v0 (F := Ideal) (ix4 b h t d) = 0 := by
      pointwise [val_main_v0, val_main_cst]
    have e4 : val_main_v81 (F := Ideal) (ix4 b h t d) = Ideal.ofBits .f32 0x40800000#32 := by
      pointwise [val_main_v81, val_main_cst_12]
    rw [val_main_v82_apply, val_main_v80_apply, val_main_v60_apply, val_main_v40_apply, val_main_v20_apply, e0, e4,
      bank0_eq, bank1_eq, bank2_eq, bank3_eq,
      bank_eq q K V 0 (slice0_apply K) (slice0_apply V) h0, bank_eq q K V 1 (slice1_apply K) (slice1_apply V) h1,
      bank_eq q K V 2 (slice2_apply K) (slice2_apply V) h2, bank_eq q K V 3 (slice3_apply K) (slice3_apply V) h3]
    show Ideal.div (0 + bank q K V 0 b h t d + bank q K V 1 b h t d + bank q K V 2 b h t d + bank q K V 3 b h t d)
      (Ideal.ofBits .f32 0x40800000#32) = _
    rw [zero_add, Consts.four, Ideal.div_coe (by norm_num), ← Consts.quarter]
    rfl
  funext j
  rw [eq_ix4 j]
  exact key (j 0) (j 1) (j 2) (j 3)

end Cert.Proof.Equation

end
-- ==== Proof.lean ====
/- Hand-written, untrusted: the proof of `Cert.Claim`. The kernels' frames are their generated ones; the reference's is its
   generated run, and it declares no semaphore. The value claim puts the kernel's run (`KernelRun.run`) beside the
   reference's (`Value.run`): where the precondition holds the two results are one function of the three arguments
   (`Equation.result_eq`). -/
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_scores_in_range
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and every counter at zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1)
        ∧ r.2.mem ((c.tc : Thread ReferenceIdeal.nD ReferenceIdeal.τ).loc ReferenceIdeal.main_arg2)
          = m ((c.tc : Thread ReferenceIdeal.nD ReferenceIdeal.τ).loc ReferenceIdeal.main_arg2))
        ∧ r.2.sem = fun _ => 0) :=
  (θ_run ReferenceIdeal.defs _ _).mono (fun r h => ⟨fun c => (h c).2, sem_eq_zero_of_no_sems (by decide) r.2⟩)
    (ReferenceIdeal.Value.run m ρ)

/-- The kernel's and the reference's results are equal where the precondition holds. -/
theorem algebraic : Cert.algebraic_KernelIdeal_ReferenceIdeal_pre_scores_in_range := by
  intro m ρ m' ρ' hpre hargs
  refine ⟨fun c => KernelRun.result (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2)), KernelRun.run m ρ, ?_⟩
  refine (θ_run ReferenceIdeal.defs _ _).mono (fun r h c => ⟨(h c).1.trans ?_, (h c).2⟩) (ReferenceIdeal.Value.run m' ρ')
  obtain ⟨e0, e1, e2⟩ := hargs c
  obtain ⟨p0, p1, p2, p3⟩ := hpre c
  rw [ReferenceIdeal.Read.val_main_v82_eq, e0, e1, e2]
  exact Equation.result_eq _ _ _ (Equation.inRange_of_mask _ _ p0) (Equation.inRange_of_mask _ _ p1)
    (Equation.inRange_of_mask _ _ p2) (Equation.inRange_of_mask _ _ p3)

theorem claim : Cert.Claim := ⟨Cert.Kernel.Gen.facts, Cert.KernelIdeal.Gen.facts, Cert.ReferenceIdeal.Gen.facts, Cert.Pre_scores_in_range.Gen.facts,
  fun m ρ _ => Cert.Kernel.Gen.frame m ρ, fun m ρ _ => Cert.KernelIdeal.Gen.frame m ρ,
  fun m ρ _ => Cert.KernelIdeal.Gen.frame m ρ, fun m ρ _ => reference_frame m ρ, fun m ρ _ => reference_frame m ρ,
  IdealRules.named_const.statement Cert.KernelIdeal.κ "log2e" .f32 0x3FB8AA3B#32 (((Real.log 2)⁻¹ : ℝ) : EReal) rfl,
  algebraic⟩

end Cert.Proof

end
